-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x6272 : Shape := ⟨3, ![32, 1, 6272]⟩
abbrev S26240x3136 : Shape := ⟨2, ![26240, 3136]⟩
abbrev S26240x196 : Shape := ⟨2, ![26240, 196]⟩
abbrev S32x6272 : Shape := ⟨2, ![32, 6272]⟩
abbrev S32x26240 : Shape := ⟨2, ![32, 26240]⟩
abbrev S512x3136 : Shape := ⟨2, ![512, 3136]⟩
abbrev S512x196 : Shape := ⟨2, ![512, 196]⟩
abbrev S32x512 : Shape := ⟨2, ![32, 512]⟩
abbrev S196x256 : Shape := ⟨2, ![196, 256]⟩
abbrev S32x128 : Shape := ⟨2, ![32, 128]⟩
abbrev S32x128x1 : Shape := ⟨3, ![32, 128, 1]⟩
abbrev S256x196 : Shape := ⟨2, ![256, 196]⟩
abbrev S32x256 : Shape := ⟨2, ![32, 256]⟩
abbrev S256x128 : Shape := ⟨2, ![256, 128]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x256 : Shape := ⟨2, ![1, 256]⟩
abbrev S256x64 : Shape := ⟨2, ![256, 64]⟩
abbrev S64x256 : Shape := ⟨2, ![64, 256]⟩
abbrev S64x1x256 : Shape := ⟨3, ![64, 1, 256]⟩
abbrev S64x2x256 : Shape := ⟨3, ![64, 2, 256]⟩
abbrev S32x1x26240 : Shape := ⟨3, ![32, 1, 26240]⟩

abbrev nBuf : Space → Nat
  | .hbm => 6
  | .vmem => 9
  | .smem => 0
  | _ => 0

abbrev bufTy : (tb : Table) → Fin (tcTables nBuf tb) → BufTy
  | .hbm, ⟨0, _⟩ => ⟨S32x1x6272, .bf16⟩
  | .hbm, ⟨1, _⟩ => ⟨S26240x3136, .i8⟩
  | .hbm, ⟨2, _⟩ => ⟨S26240x196, .bf16⟩
  | .hbm, ⟨3, _⟩ => ⟨S32x6272, .bf16⟩
  | .hbm, ⟨4, _⟩ => ⟨S32x26240, .bf16⟩
  | .hbm, ⟨5, _⟩ => ⟨S32x1x26240, .bf16⟩
  | .local _ .vmem, ⟨0, _⟩ => ⟨S32x6272, .bf16⟩
  | .local _ .vmem, ⟨1, _⟩ => ⟨S512x3136, .i8⟩
  | .local _ .vmem, ⟨2, _⟩ => ⟨S512x3136, .i8⟩
  | .local _ .vmem, ⟨3, _⟩ => ⟨S512x196, .bf16⟩
  | .local _ .vmem, ⟨4, _⟩ => ⟨S512x196, .bf16⟩
  | .local _ .vmem, ⟨5, _⟩ => ⟨S32x512, .bf16⟩
  | .local _ .vmem, ⟨6, _⟩ => ⟨S32x512, .bf16⟩
  | .local _ .vmem, ⟨7, _⟩ => ⟨S32x6272, .bf16⟩
  | .local _ .vmem, ⟨8, _⟩ => ⟨S196x256, .bf16⟩
  | _, _ => ⟨S32x1x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x6272 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3136 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x196 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x1x6272 : Shape := ⟨3, ![32, 1, 6272]⟩
abbrev S26240x3136 : Shape := ⟨2, ![26240, 3136]⟩
abbrev S26240x196 : Shape := ⟨2, ![26240, 196]⟩
abbrev S26240x196x16 : Shape := ⟨3, ![26240, 196, 16]⟩
abbrev S_ : Shape := ⟨0, ![]⟩
abbrev S26240x196x1 : Shape := ⟨3, ![26240, 196, 1]⟩
abbrev S32x1x196x32 : Shape := ⟨4, ![32, 1, 196, 32]⟩
abbrev S32x1x196x16 : Shape := ⟨4, ![32, 1, 196, 16]⟩
abbrev S32x1x26240 : Shape := ⟨3, ![32, 1, 26240]⟩

abbrev nBuf : Space → Nat
  | .hbm => 32
  | .vmem => 0
  | .smem => 0
  | _ => 0

abbrev bufTy : (tb : Table) → Fin (tcTables nBuf tb) → BufTy
  | .hbm, ⟨0, _⟩ => ⟨S32x1x6272, .bf16⟩
  | .hbm, ⟨1, _⟩ => ⟨S26240x3136, .i8⟩
  | .hbm, ⟨2, _⟩ => ⟨S26240x196, .bf16⟩
  | .hbm, ⟨3, _⟩ => ⟨S26240x196x16, .i8⟩
  | .hbm, ⟨4, _⟩ => ⟨S26240x196x16, .i32⟩
  | .hbm, ⟨5, _⟩ => ⟨S_, .i32⟩
  | .hbm, ⟨6, _⟩ => ⟨S26240x196x16, .i32⟩
  | .hbm, ⟨7, _⟩ => ⟨S26240x196x16, .i32⟩
  | .hbm, ⟨8, _⟩ => ⟨S26240x196x16, .bf16⟩
  | .hbm, ⟨9, _⟩ => ⟨S_, .bf16⟩
  | .hbm, ⟨10, _⟩ => ⟨S26240x196x16, .bf16⟩
  | .hbm, ⟨11, _⟩ => ⟨S26240x196x16, .bf16⟩
  | .hbm, ⟨12, _⟩ => ⟨S26240x196x1, .bf16⟩
  | .hbm, ⟨13, _⟩ => ⟨S26240x196x16, .bf16⟩
  | .hbm, ⟨14, _⟩ => ⟨S26240x196x16, .bf16⟩
  | .hbm, ⟨15, _⟩ => ⟨S_, .i32⟩
  | .hbm, ⟨16, _⟩ => ⟨S26240x196x16, .i32⟩
  | .hbm, ⟨17, _⟩ => ⟨S26240x196x16, .i32⟩
  | .hbm, ⟨18, _⟩ => ⟨S26240x196x16, .bf16⟩
  | .hbm, ⟨19, _⟩ => ⟨S_, .bf16⟩
  | .hbm, ⟨20, _⟩ => ⟨S26240x196x16, .bf16⟩
  | .hbm, ⟨21, _⟩ => ⟨S26240x196x16, .bf16⟩
  | .hbm, ⟨22, _⟩ => ⟨S26240x196x1, .bf16⟩
  | .hbm, ⟨23, _⟩ => ⟨S26240x196x16, .bf16⟩
  | .hbm, ⟨24, _⟩ => ⟨S26240x196x16, .bf16⟩
  | .hbm, ⟨25, _⟩ => ⟨S32x1x196x32, .bf16⟩
  | .hbm, ⟨26, _⟩ => ⟨S32x1x196x16, .bf16⟩
  | .hbm, ⟨27, _⟩ => ⟨S32x1x196x16, .bf16⟩
  | .hbm, ⟨28, _⟩ => ⟨S32x1x26240, .f32⟩
  | .hbm, ⟨29, _⟩ => ⟨S32x1x26240, .f32⟩
  | .hbm, ⟨30, _⟩ => ⟨S32x1x26240, .f32⟩
  | .hbm, ⟨31, _⟩ => ⟨S32x1x26240, .bf16⟩
  | _, _ => ⟨S32x1x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.BitsBody.lean ====
/-
  One grid point of the kernel body, run on whole buffers. `bodyRun` carries the contents that the run finds for the output block
  and for the scratch copy of x; `body_owns` restates the run over what the staging buffers read.
-/
module

public import proofs.«01_k».proof.Proof.Gen.Kernel.Skeleton
public import proofs.«01_k».proof.Proof.Gen.Kernel.Frame
public import Idealize.ShloMosaic.Lib.Tactic

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

set_option maxRecDepth 16384 in
/-- The body on six whole buffers: x, the packed codes, the scales, the output block, the scratch copy of x and the scratch for the
    transposed scales. It ends with the first three unchanged, the output block and the scratch copy at contents the run finds,
    and the last at anything. -/
noncomputable def bodyRun (c : Dev nD) (i : grid0.Coords)
    (M1 : Memref sig .tc .vmem S32x6272 .bf16) (h1 : M1.IsWhole) (M2 : Memref sig .tc .vmem S512x3136 .i8) (h2 : M2.IsWhole)
    (M3 : Memref sig .tc .vmem S512x196 .bf16) (h3 : M3.IsWhole) (M4 : Memref sig .tc .vmem S32x512 .bf16) (h4 : M4.IsWhole)
    (M5 : Memref sig .tc .vmem S32x6272 .bf16) (h5 : M5.IsWhole) (M6 : Memref sig .tc .vmem S196x256 .bf16) (h6 : M6.IsWhole)
    (f1 : Bf (F := F) c M1) (f2 : Bf (F := F) c M2) (f3 : Bf (F := F) c M3) (f5 : Bf (F := F) c M5) :
    { W : Bf (F := F) c M4 × Bf (F := F) c M5 //
      ∀ (f4 : Bf (F := F) c M4) (f6 : Bf (F := F) c M6) (E : Set ℕ) (Q : PUnit → sProp 𝕄),
        iprop(pt c M1 f1 ∗ pt c M2 f2 ∗ pt c M3 f3 ∗ pt c M4 f4 ∗ pt c M5 f5 ∗ pt c M6 f6
          ∗ (iprop(pt c M1 f1 ∗ pt c M2 f2 ∗ pt c M3 f3 ∗ pt c M4 W.1 ∗ pt c M5 W.2 ∗ (∃ f, pt c M6 f)) -∗ Q ⟨⟩))
        ⊢ wp frame (wpE (defs₀ (F := F)) Variants.none c none) E
            (cc0__body i M1 h1 M2 h2 M3 h3 M4 h4 M5 h5 M6 h6) Q } := by
  refine ⟨⟨?_, ?_⟩, fun f4 f6 E Q => ?run⟩
  case run =>
    iintro ⟨H1, H2, H3, H4, H5, H6, Hk⟩
    sl_exec_parts!
    sl_step
    iapply Hk
    isplitl [H1]; · iexact H1
    isplitl [H2]; · iexact H2
    isplitl [H3]; · iexact H3
    isplitl [H4]; · iexact H4
    isplitl [H5]; · iexact H5
    iexists _; iexact H6

/-- The body on staging buffers given by what they read. -/
theorem body_owns (c : Dev nD) (i : grid0.Coords)
    (M1 : Memref sig .tc .vmem S32x6272 .bf16) (h1 : M1.IsWhole) (M2 : Memref sig .tc .vmem S512x3136 .i8) (h2 : M2.IsWhole)
    (M3 : Memref sig .tc .vmem S512x196 .bf16) (h3 : M3.IsWhole) (M4 : Memref sig .tc .vmem S32x512 .bf16) (h4 : M4.IsWhole)
    (M5 : Memref sig .tc .vmem S32x6272 .bf16) (h5 : M5.IsWhole) (M6 : Memref sig .tc .vmem S196x256 .bf16) (h6 : M6.IsWhole)
    (X1 : S32x6272.Idx → Elt F .bf16) (X2 : S512x3136.Idx → Elt F .i8) (X3 : S512x196.Idx → Elt F .bf16)
    (X4 : S32x512.Idx → Elt F .bf16) (f5 : Bf (F := F) c M5) (E : Set ℕ) (Q : PUnit → sProp 𝕄) :
    iprop(owns (c : Thread nD τ) M1 fullShare X1 ∗ owns (c : Thread nD τ) M2 fullShare X2 ∗ owns (c : Thread nD τ) M3 fullShare X3
      ∗ owns (c : Thread nD τ) M4 fullShare X4 ∗ pt c M5 f5 ∗ (∃ f, pt c M6 f)
      ∗ (iprop(owns (c : Thread nD τ) M1 fullShare X1 ∗ owns (c : Thread nD τ) M2 fullShare X2 ∗ owns (c : Thread nD τ) M3 fullShare X3
          ∗ owns (c : Thread nD τ) M4 fullShare
              (M4.view.read (Elt F) (bodyRun c i M1 h1 M2 h2 M3 h3 M4 h4 M5 h5 M6 h6 (h1.unread X1) (h2.unread X2) (h3.unread X3) f5).1.1)
          ∗ pt c M5 (bodyRun c i M1 h1 M2 h2 M3 h3 M4 h4 M5 h5 M6 h6 (h1.unread X1) (h2.unread X2) (h3.unread X3) f5).1.2
          ∗ (∃ f, pt c M6 f)) -∗ Q ⟨⟩))
    ⊢ wp frame (wpE (defs₀ (F := F)) Variants.none c none) E (cc0__body i M1 h1 M2 h2 M3 h3 M4 h4 M5 h5 M6 h6) Q := by
  unfold owns
  rw [h1.set_eq_univ, h2.set_eq_univ, h3.set_eq_univ, h4.set_eq_univ]
  iintro ⟨⟨%f1, %e1, H1⟩, ⟨%f2, %e2, H2⟩, ⟨%f3, %e3, H3⟩, ⟨%f4, -, H4⟩, H5, ⟨%f6, H6⟩, Hk⟩
  rw [h1.eq_unread e1, h2.eq_unread e2, h3.eq_unread e3]
  iapply ((bodyRun c i M1 h1 M2 h2 M3 h3 M4 h4 M5 h5 M6 h6 (h1.unread X1) (h2.unread X2) (h3.unread X3) f5).2 f4 f6 E Q)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  iapply Hk
  isplitl [H1]
  · iexists (h1.unread X1); isplitr
    · ipureintro; exact h1.read_unread X1
    iexact H1
  isplitl [H2]
  · iexists (h2.unread X2); isplitr
    · ipureintro; exact h2.read_unread X2
    iexact H2
  isplitl [H3]
  · iexists (h3.unread X3); isplitr
    · ipureintro; exact h3.read_unread X3
    iexact H3
  isplitl [H4]
  · iexists _; isplitr
    · ipureintro; rfl
    iexact H4
  isplitl [H5]; · iexact H5
  iexact H6

end Cert.Kernel.Hand

end
-- ==== Proof.BitsRun.lean ====
/-
  The frame of the kernel as printed, over bit patterns: it terminates, its arguments end as they were and every counter at zero.
  Nothing is stated of the result array.
-/
module

public import proofs.«01_k».proof.Proof.BitsBody

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window whose buffer nothing is stated of: the result's. -/
def forgotten (w : Fin cfg0.W) : Bool := w.val == 3

/-- The proof data: the arrays as the region finds them, the input buffers at their blocks after the body; nothing of the
    scratch buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => Scalar.ofBits .bf16 0x0000#16) (iblk m c 2 t)
    | ⟨3, _⟩ => fun _ => Scalar.ofBits .bf16 0x0000#16
  Φ _ := Pipeline.ΦA spec0 c
  q _ := fullShare
  owed _ := 0

/-- What the body finds in the buffers: x's block, -/
theorem before_0 (c : Dev nD) (t : Fin cfg0.N) (d) : (dats m 0 c).before 0 t d = iblk m c 0 t :=
  before0_0_of m (dats m 0 c) rfl (fun _ => rfl) t d
/-- the block of packed codes on the rows inside the array, anything past them, -/
theorem before_1 (c : Dev nD) (t : Fin cfg0.N) (d) :
    (dats m 0 c).before 1 t d = win0_1.fill (grid0.coords t) d (iblk m c 1 t) := by
  unfold Dat.before; rw [if_pos (fetch0_1 t)]; rfl
/-- and the block of scales likewise. -/
theorem before_2 (c : Dev nD) (t : Fin cfg0.N) (d) :
    (dats m 0 c).before 2 t d = win0_2.fill (grid0.coords t) d (iblk m c 2 t) := by
  unfold Dat.before; rw [if_pos (fetch0_2 t)]; rfl

/-- Between points: the two scratch buffers at anything. -/
theorem inv_eq (c : Dev nD) (t : Fin (cfg0.N + 1)) : (dats m 0 c).Φ t
    = iprop(((∃ f, pt c (Memref.whole cc0_scratch0) f) ∗ (∃ f, pt c (Memref.whole cc0_scratch1) f)) ∗ ∃ r, prngReg c r) := by
  show Pipeline.ΦA spec0 c = _
  unfold Pipeline.ΦA
  show iprop(Pipeline.scopedRest spec0 c ∗ _) = _
  rw [scopedRest0_eq]

/-- The body's obligation at a point, the result's buffer at anything before and after. -/
theorem body_obligation (c : Dev nD) : BodyObligationLoose (dats m 0 c) (defs₀ (F := F)) Variants.none () Set.univ forgotten := fun t => by
  rw [bigSep_W0, bigSep_W0]
  rw [show forgotten 0 = false from rfl, show forgotten 1 = false from rfl, show forgotten 2 = false from rfl,
    show forgotten 3 = true from rfl]
  dsimp only
  rw [show (dats m 0 c).owesAt () t.succ = (dats m 0 c).owesAt () t.castSucc from rfl, inv_eq m c t.castSucc, inv_eq m c t.succ]
  iintro ⟨⟨⟨⟨%f5, H5⟩, H6⟩, HP⟩, Ho, ⟨%d0, H0⟩, ⟨%d1, H1⟩, ⟨%d2, H2⟩, ⟨%d3, H3⟩⟩
  rw [before_0 m c t d0, before_1 m c t d1, before_2 m c t d2]
  iapply (body_owns (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (Memref.whole cc0_scratch0) (Memref.isWhole_whole _)
    (Memref.whole cc0_scratch1) (Memref.isWhole_whole _) (iblk m c 0 t) (win0_1.fill (grid0.coords t) d1 (iblk m c 1 t))
    (win0_2.fill (grid0.coords t) d2 (iblk m c 2 t)) _ f5 Set.univ _)
  isplitl [H0]; · iexact H0
  isplitl [H1]; · iexact H1
  isplitl [H2]; · iexact H2
  isplitl [H3]; · iexact H3
  isplitl [H5]; · iexact H5
  isplitl [H6]; · iexact H6
  iintro ⟨H0, H1, H2, H3, H5, H6⟩
  isplitl [H5 H6 HP]
  · isplitr [HP]
    · isplitl [H5]; · iexists _; iexact H5
      iexact H6
    iexact HP
  isplitl [Ho]; · iexact Ho
  isplitl [H0]; · iexact H0
  isplitl [H1]
  · iexists d1
    change _ ⊢ owns (c : Thread nD τ) (win0_1.stage (cfg0.slots t 1)) fullShare (win0_1.fill (grid0.coords t) d1
      (win0_1.cut (grid0.coords t) (win0_1.fill (grid0.coords t) (fun _ => (0#8 : BitVec 8)) (iblk m c 1 t))))
    rw [Window.cut_fill]
  isplitl [H2]
  · iexists d2
    change _ ⊢ owns (c : Thread nD τ) (win0_2.stage (cfg0.slots t 2)) fullShare (win0_2.fill (grid0.coords t) d2
      (win0_2.cut (grid0.coords t) (win0_2.fill (grid0.coords t) (fun _ => Scalar.ofBits .bf16 0x0000#16) (iblk m c 2 t))))
    rw [Window.cut_fill]
  · iexists _; iexact H3

-- the launch theorem's implicit arguments are found by unifying with the run's statement
set_option backward.isDefEq.respectTransparency.types false in
/-- Every weakly fair execution of the kernel's program terminates with its arguments unchanged and every counter at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget cfgs (dats m) 0 launch0 defs₀ Variants.none forgotten {main_v2} m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hT := fun ops hops op hop b hb => by
      obtain rfl := List.mem_singleton.1 hops
      obtain rfl := List.mem_singleton.1 hop
      have h := Proc.devRef_injective .tc (Finset.mem_singleton.1 hb)
      exact Finset.mem_singleton.2 h)
    (hmain := hmain m Variants.none) (hA := fun _ _ => rfl) (hΦ := fun _ _ => rfl)
    (Q' := _) (hQ' := fun r h => ⟨fun c => ⟨((h.1 c).2 main_arg0 (by decide)).trans (V_main_arg0 m c), by
      have e := (h.1 c).1 1
      rw [RDat.ArrAt_in _ 1 rfl] at e
      exact e.trans (V_main_arg1 m c), by
      have e := (h.1 c).1 2
      rw [RDat.ArrAt_in _ 2 rfl] at e
      exact e.trans (V_main_arg2 m c)⟩, h.2⟩)

end Cert.Kernel.Hand

end
-- ==== Proof.Body.lean ====
/-
  One grid point of the kernel body, run on whole buffers. `bodyRun` carries the contents that the run finds for the output block
  and for the scratch copy of x; `body_owns` restates the run over what the staging buffers read.
-/
module

public import proofs.«01_k».proof.Proof.Gen.KernelIdeal.Skeleton
public import proofs.«01_k».proof.Proof.Gen.KernelIdeal.Frame
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

set_option maxRecDepth 16384 in
/-- The body on six whole buffers: x, the packed codes, the scales, the output block, the scratch copy of x and the scratch for the
    transposed scales. It ends with the first three unchanged, the output block and the scratch copy at contents the run finds,
    and the last at anything. -/
noncomputable def bodyRun (c : Dev nD) (i : grid0.Coords)
    (M1 : Memref sig .tc .vmem S32x6272 .bf16) (h1 : M1.IsWhole) (M2 : Memref sig .tc .vmem S512x3136 .i8) (h2 : M2.IsWhole)
    (M3 : Memref sig .tc .vmem S512x196 .bf16) (h3 : M3.IsWhole) (M4 : Memref sig .tc .vmem S32x512 .bf16) (h4 : M4.IsWhole)
    (M5 : Memref sig .tc .vmem S32x6272 .bf16) (h5 : M5.IsWhole) (M6 : Memref sig .tc .vmem S196x256 .bf16) (h6 : M6.IsWhole)
    (f1 : Bf (F := F) c M1) (f2 : Bf (F := F) c M2) (f3 : Bf (F := F) c M3) (f5 : Bf (F := F) c M5) :
    { W : Bf (F := F) c M4 × Bf (F := F) c M5 //
      ∀ (f4 : Bf (F := F) c M4) (f6 : Bf (F := F) c M6) (E : Set ℕ) (Q : PUnit → sProp 𝕄),
        iprop(pt c M1 f1 ∗ pt c M2 f2 ∗ pt c M3 f3 ∗ pt c M4 f4 ∗ pt c M5 f5 ∗ pt c M6 f6
          ∗ (iprop(pt c M1 f1 ∗ pt c M2 f2 ∗ pt c M3 f3 ∗ pt c M4 W.1 ∗ pt c M5 W.2 ∗ (∃ f, pt c M6 f)) -∗ Q ⟨⟩))
        ⊢ wp frame (wpE (defs₀ (F := F)) Variants.none c none) E
            (cc0__body i M1 h1 M2 h2 M3 h3 M4 h4 M5 h5 M6 h6) Q } := by
  refine ⟨⟨?_, ?_⟩, fun f4 f6 E Q => ?run⟩
  case run =>
    iintro ⟨H1, H2, H3, H4, H5, H6, Hk⟩
    sl_exec_parts!
    sl_step
    iapply Hk
    isplitl [H1]; · iexact H1
    isplitl [H2]; · iexact H2
    isplitl [H3]; · iexact H3
    isplitl [H4]; · iexact H4
    isplitl [H5]; · iexact H5
    iexists _; iexact H6

/-- The body on staging buffers given by what they read. -/
theorem body_owns (c : Dev nD) (i : grid0.Coords)
    (M1 : Memref sig .tc .vmem S32x6272 .bf16) (h1 : M1.IsWhole) (M2 : Memref sig .tc .vmem S512x3136 .i8) (h2 : M2.IsWhole)
    (M3 : Memref sig .tc .vmem S512x196 .bf16) (h3 : M3.IsWhole) (M4 : Memref sig .tc .vmem S32x512 .bf16) (h4 : M4.IsWhole)
    (M5 : Memref sig .tc .vmem S32x6272 .bf16) (h5 : M5.IsWhole) (M6 : Memref sig .tc .vmem S196x256 .bf16) (h6 : M6.IsWhole)
    (X1 : S32x6272.Idx → Elt F .bf16) (X2 : S512x3136.Idx → Elt F .i8) (X3 : S512x196.Idx → Elt F .bf16)
    (X4 : S32x512.Idx → Elt F .bf16) (f5 : Bf (F := F) c M5) (E : Set ℕ) (Q : PUnit → sProp 𝕄) :
    iprop(owns (c : Thread nD τ) M1 fullShare X1 ∗ owns (c : Thread nD τ) M2 fullShare X2 ∗ owns (c : Thread nD τ) M3 fullShare X3
      ∗ owns (c : Thread nD τ) M4 fullShare X4 ∗ pt c M5 f5 ∗ (∃ f, pt c M6 f)
      ∗ (iprop(owns (c : Thread nD τ) M1 fullShare X1 ∗ owns (c : Thread nD τ) M2 fullShare X2 ∗ owns (c : Thread nD τ) M3 fullShare X3
          ∗ owns (c : Thread nD τ) M4 fullShare
              (M4.view.read (Elt F) (bodyRun c i M1 h1 M2 h2 M3 h3 M4 h4 M5 h5 M6 h6 (h1.unread X1) (h2.unread X2) (h3.unread X3) f5).1.1)
          ∗ pt c M5 (bodyRun c i M1 h1 M2 h2 M3 h3 M4 h4 M5 h5 M6 h6 (h1.unread X1) (h2.unread X2) (h3.unread X3) f5).1.2
          ∗ (∃ f, pt c M6 f)) -∗ Q ⟨⟩))
    ⊢ wp frame (wpE (defs₀ (F := F)) Variants.none c none) E (cc0__body i M1 h1 M2 h2 M3 h3 M4 h4 M5 h5 M6 h6) Q := by
  unfold owns
  rw [h1.set_eq_univ, h2.set_eq_univ, h3.set_eq_univ, h4.set_eq_univ]
  iintro ⟨⟨%f1, %e1, H1⟩, ⟨%f2, %e2, H2⟩, ⟨%f3, %e3, H3⟩, ⟨%f4, -, H4⟩, H5, ⟨%f6, H6⟩, Hk⟩
  rw [h1.eq_unread e1, h2.eq_unread e2, h3.eq_unread e3]
  iapply ((bodyRun c i M1 h1 M2 h2 M3 h3 M4 h4 M5 h5 M6 h6 (h1.unread X1) (h2.unread X2) (h3.unread X3) f5).2 f4 f6 E Q)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  iapply Hk
  isplitl [H1]
  · iexists (h1.unread X1); isplitr
    · ipureintro; exact h1.read_unread X1
    iexact H1
  isplitl [H2]
  · iexists (h2.unread X2); isplitr
    · ipureintro; exact h2.read_unread X2
    iexact H2
  isplitl [H3]
  · iexists (h3.unread X3); isplitr
    · ipureintro; exact h3.read_unread X3
    iexact H3
  isplitl [H4]
  · iexists _; isplitr
    · ipureintro; rfl
    iexact H4
  isplitl [H5]; · iexact H5
  iexact H6

end Cert.KernelIdeal.Hand

end
-- ==== Proof.Clean.lean ====
/-
  What one grid point of the kernel leaves in its buffers, written as two short recursions: the scratch copy of x, chunk by
  chunk, and the accumulator of one half of the output block, tile by tile. `bodyRun_out` and `bodyRun_xs` say that the body's
  run leaves exactly these.
-/
module

public import proofs.«01_k».proof.Proof.Body

@[expose] public section

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- The lane that each lane of a 128-lane chunk of the scratch takes its element from: within each run of 32 lanes, lane `l`
    takes lane `16 (l % 2) + l / 2`. -/
def laneIdx : IVec S32x128 32 :=
  let lane : IVec S32x128 32 := iota .tc S32x128 32 [1] iota_S32x128_d1_w32
  ori (ori (andi lane (broadcast S32x128 4294967264#32)) (shli (andi lane (broadcast S32x128 1#32)) (broadcast S32x128 4#32)))
    (shrsi (andi lane (broadcast S32x128 31#32)) (broadcast S32x128 1#32))

/-- One chunk of x with its lanes permuted by `laneIdx`. -/
def chunk (v : Vec F S32x128 .bf16) : FVec F S32x128 .bf16 :=
  shapeCast S32x128
    (truncf .bf16
      (dynamicGather 1 (extf .f32 (shapeCast S32x128 v shapeCasts_S32x128_S32x128) bitsLt_bf16_f32)
        (shapeCast S32x128
          (shapeCast S32x128x1
            (select (cmpi .slt laneIdx (broadcast S32x128 0#32)) (addi laneIdx (broadcast S32x128 128#32)) laneIdx)
            shapeCasts_S32x128_S32x128x1)
          shapeCasts_S32x128x1_S32x128))
      bitsLt_bf16_f32)
    shapeCasts_S32x128_S32x128

/-- Chunk `T` of a row of 49 chunks lies within the array. -/
theorem inb_chunk {T : Nat} (h : T < 49) : ∀ a, (![0, 128 * T] : Fin 2 → Nat) a + S32x128.size a ≤ S32x6272.size a := by
  intro a; fin_cases a <;> simp <;> omega

/-- The rectangle of chunk `T`. -/
def chunkRect (T : Nat) (h : T < 49) : Rect S32x6272 := Rect.unit ![0, 128 * T] S32x128.size (inb_chunk h)

/-- The first `n` stores into the scratch copy of x, newest first, over what the x window reads. -/
def xsPieces (X : S32x6272.Idx → Elt F .bf16) : (n : Nat) → n ≤ 49 → List (View.Piece (Elt F) S32x6272 .bf16)
  | 0, _ => []
  | n + 1, h => ⟨chunkRect n h, chunk fun j => X ((chunkRect n h).toLoadRect.idx j)⟩ :: xsPieces X n (Nat.le_of_succ_le h)

/-- The 256 × 256 tile of signed four-bit codes that 128 columns of 256 packed rows hold: row `2 b` the low halves of column `b`,
    row `2 b + 1` the high halves, each with its top bit flipped and read as a signed number. -/
def codes (w : Vec F S256x128 .i8) : FVec F S256x256 .bf16 :=
  let v13 : IVec S128x256 32 :=
    extui 32 (xori (transpose S128x256 [1, 0] w transposes_S256x128_p1_0_S128x256) (broadcast S128x256 136#8)) natLt_8_32
  let lo : IVec S128x256 32 := shrsi (shli v13 (broadcast S128x256 28#32)) (broadcast S128x256 28#32)
  let hi : IVec S128x256 32 := shrsi (shli v13 (broadcast S128x256 24#32)) (broadcast S128x256 28#32)
  sitofp .bf16
    (trunci 4
      (shapeCast S256x256
        (concatenate S128x2x256 1
          [⟨S128x1x256, shapeCast S128x1x256 lo shapeCasts_S128x256_S128x1x256⟩,
            ⟨S128x1x256, shapeCast S128x1x256 hi shapeCasts_S128x256_S128x1x256⟩]
          concatenates_S128x1x256_S128x1x256_S128x2x256_d1)
        shapeCasts_S128x2x256_S256x256)
      natLt_4_32)

/-- The same for the last, shorter tile: 64 columns. -/
def codesLast (w : Vec F S256x64 .i8) : FVec F S128x256 .bf16 :=
  let v13 : IVec S64x256 32 :=
    extui 32 (xori (transpose S64x256 [1, 0] w transposes_S256x64_p1_0_S64x256) (broadcast S64x256 136#8)) natLt_8_32
  let lo : IVec S64x256 32 := shrsi (shli v13 (broadcast S64x256 28#32)) (broadcast S64x256 28#32)
  let hi : IVec S64x256 32 := shrsi (shli v13 (broadcast S64x256 24#32)) (broadcast S64x256 28#32)
  sitofp .bf16
    (trunci 4
      (shapeCast S128x256
        (concatenate S64x2x256 1
          [⟨S64x1x256, shapeCast S64x1x256 lo shapeCasts_S64x256_S64x1x256⟩,
            ⟨S64x1x256, shapeCast S64x1x256 hi shapeCasts_S64x256_S64x1x256⟩]
          concatenates_S64x1x256_S64x1x256_S64x2x256_d1)
        shapeCasts_S64x2x256_S128x256)
      natLt_4_32)

/-- A row of scales repeated over the 32 rows of a group. -/
def scaleRow (s : Vec F S1x256 .bf16) : FVec F S32x256 .bf16 :=
  broadcastTo S32x256 (shapeCast S1x256 s shapeCasts_S1x256_S1x256) broadcasts_S1x256_S32x256

/-- One full tile added to the accumulator: 256 columns of x against the codes times the scales of eight groups. -/
def tile (acc : FVec F S32x256 .f32) (w : Vec F S256x128 .i8) (s : Fin 8 → Vec F S1x256 .bf16) (x : Vec F S32x256 .bf16) :
    FVec F S32x256 .f32 :=
  addf acc
    (matmul dot_S32x256_S256x256_S32x256_1_0_0_1_n_n none x
      (mulf (codes w)
        (concatenate S256x256 0
          [⟨S32x256, scaleRow (s 0)⟩, ⟨S32x256, scaleRow (s 1)⟩, ⟨S32x256, scaleRow (s 2)⟩, ⟨S32x256, scaleRow (s 3)⟩,
            ⟨S32x256, scaleRow (s 4)⟩, ⟨S32x256, scaleRow (s 5)⟩, ⟨S32x256, scaleRow (s 6)⟩, ⟨S32x256, scaleRow (s 7)⟩]
          concatenates_S32x256_S32x256_S32x256_S32x256_S32x256_S32x256_S32x256_S32x256_S256x256_d0))
      (constant S32x256 .f32 0x00000000#32))

/-- The last tile added to the accumulator: 128 columns of x, four groups. -/
def tileLast (acc : FVec F S32x256 .f32) (w : Vec F S256x64 .i8) (s : Fin 4 → Vec F S1x256 .bf16) (x : Vec F S32x128 .bf16) :
    FVec F S32x256 .f32 :=
  addf acc
    (matmul dot_S32x128_S128x256_S32x256_1_0_0_1_n_n none x
      (mulf (codesLast w)
        (concatenate S128x256 0
          [⟨S32x256, scaleRow (s 0)⟩, ⟨S32x256, scaleRow (s 1)⟩, ⟨S32x256, scaleRow (s 2)⟩, ⟨S32x256, scaleRow (s 3)⟩]
          concatenates_S32x256_S32x256_S32x256_S32x256_S128x256_d0))
      (constant S32x256 .f32 0x00000000#32))

/-- A block of rows `256 oc …` and 128 columns `128 t …` lies within the packed window. -/
theorem inb_w {oc t : Nat} (ho : oc < 2) (h : t < 24) : ∀ a, (![256 * oc, 128 * t] : Fin 2 → Nat) a + S256x128.size a ≤ S512x3136.size a := by
  intro a; fin_cases a <;> simp <;> omega
/-- Row `g` lies within the transposed scales. -/
theorem inb_s {g : Nat} (h : g < 196) : ∀ a, (![g, 0] : Fin 2 → Nat) a + S1x256.size a ≤ S196x256.size a := by
  intro a; fin_cases a <;> simp <;> omega
/-- Columns `256 t …` lie within the scratch copy of x. -/
theorem inb_x {t : Nat} (h : t < 24) : ∀ a, (![0, 256 * t] : Fin 2 → Nat) a + S32x256.size a ≤ S32x6272.size a := by
  intro a; fin_cases a <;> simp <;> omega
/-- The last 64 columns lie within the packed window. -/
theorem inb_wl {oc : Nat} (ho : oc < 2) : ∀ a, (![256 * oc, 3072] : Fin 2 → Nat) a + S256x64.size a ≤ S512x3136.size a := by
  intro a; fin_cases a <;> simp <;> omega
/-- Rows `256 oc …` lie within the scale window. -/
theorem inb_sc {oc : Nat} (ho : oc < 2) : ∀ a, (![256 * oc, 0] : Fin 2 → Nat) a + S256x196.size a ≤ S512x196.size a := by
  intro a; fin_cases a <;> simp <;> omega
/-- Columns `256 oc …` lie within the output block. -/
theorem inb_o {oc : Nat} (ho : oc < 2) : ∀ a, (![0, 256 * oc] : Fin 2 → Nat) a + S32x256.size a ≤ S32x512.size a := by
  intro a; fin_cases a <;> simp <;> omega

section

variable (W : S512x3136.Idx → Elt F .i8) (S : S196x256.Idx → Elt F .bf16) (X : S32x6272.Idx → Elt F .bf16)

/-- The accumulator of half `oc` of the output block after the first `n` tiles: the packed window reads `W`, the transposed
    scales of the half `S`, the scratch copy of x `X`. -/
def accum (oc : Nat) (ho : oc < 2) : (n : Nat) → n ≤ 24 → FVec F S32x256 .f32
  | 0, _ => broadcast S32x256 (Scalar.ofBits .f32 0x00000000#32)
  | n + 1, h =>
    tile (accum oc ho n (Nat.le_of_succ_le h))
      (fun j => W ((Rect.unit (s := S512x3136) ![256 * oc, 128 * n] S256x128.size (inb_w ho h)).toLoadRect.idx j))
      (fun k j => S ((Rect.unit (s := S196x256) ![8 * n + k.val, 0] S1x256.size (inb_s (by omega))).toLoadRect.idx j))
      (fun j => X ((Rect.unit (s := S32x6272) ![0, 256 * n] S32x256.size (inb_x h)).toLoadRect.idx j))

/-- Half `oc` of the output block: all tiles, rounded to bf16. -/
def outHalf (oc : Nat) (ho : oc < 2) : FVec F S32x256 .bf16 :=
  truncf .bf16
    (tileLast (accum W S X oc ho 24 (Nat.le_refl _))
      (fun j => W ((Rect.unit (s := S512x3136) ![256 * oc, 3072] S256x64.size (inb_wl ho)).toLoadRect.idx j))
      (fun k j => S ((Rect.unit (s := S196x256) ![192 + k.val, 0] S1x256.size (inb_s (by omega))).toLoadRect.idx j))
      (fun j => X ((Rect.unit (s := S32x6272) ![0, 6144] S32x128.size inb_S32x6272_S32x128_0_6144).toLoadRect.idx j)))
    bitsLt_bf16_f32

end

/-- Half `oc` of the scale window, transposed. -/
def scalesT (S : S512x196.Idx → Elt F .bf16) (oc : Nat) (ho : oc < 2) : FVec F S196x256 .bf16 :=
  shapeCast S196x256
    (transpose S196x256 [1, 0]
      (fun j => S ((Rect.unit (s := S512x196) ![256 * oc, 0] S256x196.size (inb_sc ho)).toLoadRect.idx j))
      transposes_S256x196_p1_0_S196x256)
    shapeCasts_S196x256_S196x256

section

variable (c : Dev nD) (i : grid0.Coords)
    (M1 : Memref sig .tc .vmem S32x6272 .bf16) (h1 : M1.IsWhole) (M2 : Memref sig .tc .vmem S512x3136 .i8) (h2 : M2.IsWhole)
    (M3 : Memref sig .tc .vmem S512x196 .bf16) (h3 : M3.IsWhole) (M4 : Memref sig .tc .vmem S32x512 .bf16) (h4 : M4.IsWhole)
    (M5 : Memref sig .tc .vmem S32x6272 .bf16) (h5 : M5.IsWhole) (M6 : Memref sig .tc .vmem S196x256 .bf16) (h6 : M6.IsWhole)
    (f1 : Bf (F := F) c M1) (f2 : Bf (F := F) c M2) (f3 : Bf (F := F) c M3) (f5 : Bf (F := F) c M5)

/-- The condition under which the point fills the scratch copy of x. -/
def first (i : grid0.Coords) : Prop :=
  Scalar.cmpi .ne (Scalar.extui (Scalar.cmpi .eq (BitVec.ofNat 32 (i 0).val) 0#32) : BitVec 32) 0#32 = 1#1

instance (i : grid0.Coords) : Decidable (first i) := by unfold first; infer_instance

/-- What the scratch copy of x holds once the point has (or has not) filled it. -/
def xsAfter : Bf (F := F) c M5 :=
  if first i then M5.view.writes (Elt F) f5 (xsPieces (M1.view.read (Elt F) f1) 49 (Nat.le_refl _)) else f5

/-- The transposed scales of half `oc` as the body reads them back. -/
def stRead (oc : Nat) (ho : oc < 2) : S196x256.Idx → Elt F .bf16 :=
  M6.view.read (Elt F) (M6.view.writes (Elt F) M6.view.junk
    (match oc with
     | 0 => [⟨Rect.unit (s := S196x256) ![0, 0] S196x256.size inb_S196x256_S196x256_0_0, scalesT (M3.view.read (Elt F) f3) 0 (by decide)⟩]
     | _ => [⟨Rect.unit (s := S196x256) ![0, 0] S196x256.size inb_S196x256_S196x256_0_0, scalesT (M3.view.read (Elt F) f3) 1 (by decide)⟩,
             ⟨Rect.unit (s := S196x256) ![0, 0] S196x256.size inb_S196x256_S196x256_0_0, scalesT (M3.view.read (Elt F) f3) 0 (by decide)⟩]))

/-- What the point leaves in the scratch copy of x. -/
theorem bodyRun_xs : (bodyRun c i M1 h1 M2 h2 M3 h3 M4 h4 M5 h5 M6 h6 f1 f2 f3 f5).1.2 = xsAfter c i M1 M5 f1 f5 := by
  rfl

/-- What the point leaves in the output block. -/
theorem bodyRun_out : (bodyRun c i M1 h1 M2 h2 M3 h3 M4 h4 M5 h5 M6 h6 f1 f2 f3 f5).1.1
    = M4.view.writes (Elt F) M4.view.junk
        [⟨Rect.unit (s := S32x512) ![0, 256 * 1] S32x256.size (inb_o (by decide)),
            outHalf (M2.view.read (Elt F) f2) (stRead c M3 M6 f3 1 (by decide)) (M5.view.read (Elt F) (xsAfter c i M1 M5 f1 f5)) 1 (by decide)⟩,
          ⟨Rect.unit (s := S32x512) ![0, 256 * 0] S32x256.size (inb_o (by decide)),
            outHalf (M2.view.read (Elt F) f2) (stRead c M3 M6 f3 0 (by decide)) (M5.view.read (Elt F) (xsAfter c i M1 M5 f1 f5)) 0 (by decide)⟩] := by
  rfl

end

end Cert.KernelIdeal.Hand

end
-- ==== Proof.Value.lean ====
/-
  The recursions of `Clean.lean` read at an index over the extended reals: a chunk of the scratch copy of x is a permutation of
  x's chunk, a tile adds 256 products of the dot product to the accumulator, and half a block of the output is the whole dot
  product of 6272 terms.
-/
module

public import proofs.«01_k».proof.Proof.Clean
public import Idealize.ShloMosaic.Lib.Pointwise

@[expose] public section

set_option maxRecDepth 16384

noncomputable section

namespace Cert.KernelIdeal.Hand

open Cert.KernelIdeal Cert.KernelIdeal.Gen
open Idealize.ShloMosaic
open Idealize.ShloMosaic.TcCoe
open Idealize.SL.Sem

/-- The four-bit code in the low (`p = 0`) or high half of a byte, less eight. -/
def code (b : BitVec 8) (p : Nat) : ℤ := if p = 0 then ((b.toNat % 16 : Nat) : ℤ) - 8 else ((b.toNat / 16 : Nat) : ℤ) - 8

/-- Where lane `l` of the permuted x comes from: within each group of 32, lane `2 b` from lane `b`, lane `2 b + 1` from lane
    `16 + b`. -/
def permLane (l : Nat) : Nat := 32 * (l / 32) + 16 * (l % 2) + l % 32 / 2

theorem permLane_lt {l n : Nat} (h : l < 32 * n) : permLane l < 32 * n := by unfold permLane; omega

/-- Flipping the top bit of the low half and reading it as a signed four-bit number takes eight off it. -/
theorem nib_lo : ∀ b : BitVec 8, (BitVec.setWidth 4 (IntOp.shrsi ArithUnit.vector (IntOp.shli ArithUnit.vector
    (BitVec.setWidth 32 (IntOp.xori b 136#8)) 28#32) 28#32)).toInt = code b 0 := by decide +kernel

/-- The same of the high half. -/
theorem nib_hi : ∀ b : BitVec 8, (BitVec.setWidth 4 (IntOp.shrsi ArithUnit.vector (IntOp.shli ArithUnit.vector
    (BitVec.setWidth 32 (IntOp.xori b 136#8)) 24#32) 28#32)).toInt = code b 1 := by decide +kernel

/-- The two together: half `p` of a byte. -/
theorem nib (b : BitVec 8) (p : Nat) (hp : p < 2) : (BitVec.setWidth 4 (if h : p < 1 then
      IntOp.shrsi ArithUnit.vector (IntOp.shli ArithUnit.vector (BitVec.setWidth 32 (IntOp.xori b 136#8)) 28#32) 28#32
    else IntOp.shrsi ArithUnit.vector (IntOp.shli ArithUnit.vector (BitVec.setWidth 32 (IntOp.xori b 136#8)) 24#32) 28#32)).toInt
      = code b p := by
  obtain rfl | rfl : p = 0 ∨ p = 1 := by omega
  · exact nib_lo b
  · exact nib_hi b

/-- One element of a tile of codes. -/
theorem codes_apply (w : Vec Ideal S256x128 .i8) (k j : Fin 256) : codes (F := Ideal) w (ix2 k j)
    = ((code (w (ix2 j ⟨k.val / 2, by omega⟩)) (k.val % 2) : ℝ) : EReal) := by
  pointwise [codes]
  exact congrArg (fun z : ℤ => ((z : ℝ) : EReal)) (nib (w (ix2 j ⟨k.val / 2, by omega⟩)) (k.val % 2) (Nat.mod_lt _ (by decide)))

/-- One element of the last tile of codes. -/
theorem codesLast_apply (w : Vec Ideal S256x64 .i8) (k : Fin 128) (j : Fin 256) : codesLast (F := Ideal) w (ix2 k j)
    = ((code (w (ix2 j ⟨k.val / 2, by omega⟩)) (k.val % 2) : ℝ) : EReal) := by
  pointwise [codesLast]
  exact congrArg (fun z : ℤ => ((z : ℝ) : EReal)) (nib (w (ix2 j ⟨k.val / 2, by omega⟩)) (k.val % 2) (Nat.mod_lt _ (by decide)))

/-- A full tile at an index: the accumulator and 256 more products. -/
theorem tile_apply (acc : FVec Ideal S32x256 .f32) (w : Vec Ideal S256x128 .i8) (s : Fin 8 → FVec Ideal S1x256 .bf16)
    (x : FVec Ideal S32x256 .bf16) (r : Fin 32) (j : Fin 256) : tile acc w s x (ix2 r j)
      = acc (ix2 r j) + ∑ k : Fin 256, x (ix2 r k) * (((code (w (ix2 j ⟨k.val / 2, by omega⟩)) (k.val % 2) : ℝ) : EReal)
          * s ⟨k.val / 32, by omega⟩ (ix2 0 j)) := by
  pointwise [tile, scaleRow]
  refine congrArg (acc (ix2 r j) + ·) (Finset.sum_congr rfl fun k _ => ?_)
  rw [codes_apply]
  refine congrArg (fun z => x (ix2 r k) * (_ * z)) ?_
  split_ifs <;> exact congrArg (fun i => s i (ix2 0 j)) (Fin.ext (by simp; omega))

/-- The last tile at an index: the accumulator and 128 more products. -/
theorem tileLast_apply (acc : FVec Ideal S32x256 .f32) (w : Vec Ideal S256x64 .i8) (s : Fin 4 → FVec Ideal S1x256 .bf16)
    (x : FVec Ideal S32x128 .bf16) (r : Fin 32) (j : Fin 256) : tileLast acc w s x (ix2 r j)
      = acc (ix2 r j) + ∑ k : Fin 128, x (ix2 r k) * (((code (w (ix2 j ⟨k.val / 2, by omega⟩)) (k.val % 2) : ℝ) : EReal)
          * s ⟨k.val / 32, by omega⟩ (ix2 0 j)) := by
  pointwise [tileLast, scaleRow]
  refine congrArg (acc (ix2 r j) + ·) (Finset.sum_congr rfl fun k _ => ?_)
  rw [codesLast_apply]
  refine congrArg (fun z => x (ix2 r k) * (_ * z)) ?_
  split_ifs <;> exact congrArg (fun i => s i (ix2 0 j)) (Fin.ext (by simp; omega))

/-- The bit arithmetic on a lane number is `permLane`. -/
theorem lane_bits : ∀ l : Fin 128, (Scalar.select
      (IntOp.cmpi CmpIPredicate.slt
        (IntOp.ori
          (IntOp.ori (IntOp.andi (BitVec.ofNat 32 l.val) 4294967264#32)
            (IntOp.shli ArithUnit.vector (IntOp.andi (BitVec.ofNat 32 l.val) 1#32) 4#32))
          (IntOp.shrsi ArithUnit.vector (IntOp.andi (BitVec.ofNat 32 l.val) 31#32) 1#32))
        0#32)
      (IntOp.addi
        (IntOp.ori
          (IntOp.ori (IntOp.andi (BitVec.ofNat 32 l.val) 4294967264#32)
            (IntOp.shli ArithUnit.vector (IntOp.andi (BitVec.ofNat 32 l.val) 1#32) 4#32))
          (IntOp.shrsi ArithUnit.vector (IntOp.andi (BitVec.ofNat 32 l.val) 31#32) 1#32))
        128#32)
      (IntOp.ori
        (IntOp.ori (IntOp.andi (BitVec.ofNat 32 l.val) 4294967264#32)
          (IntOp.shli ArithUnit.vector (IntOp.andi (BitVec.ofNat 32 l.val) 1#32) 4#32))
        (IntOp.shrsi ArithUnit.vector (IntOp.andi (BitVec.ofNat 32 l.val) 31#32) 1#32))).toNat % 128 = permLane l.val := by
  decide +kernel

/-- A chunk at an index: the element of x at the permuted lane. -/
theorem chunk_apply (v : Vec Ideal S32x128 .bf16) (r : Fin 32) (l : Fin 128) :
    chunk (F := Ideal) v (ix2 r l) = v (ix2 r ⟨permLane l.val, permLane_lt (n := 4) l.isLt⟩) := by
  pointwise [chunk, laneIdx]
  exact congrArg (fun i => v (ix2 r i)) (Fin.ext (lane_bits l))

section

variable (W : Vec Ideal S512x3136 .i8) (S : FVec Ideal S196x256 .bf16) (X : FVec Ideal S32x6272 .bf16)

/-- Term `q` of the dot product of row `r` of the (permuted) x with output column `256 oc + j` of the block. -/
def term (oc : Nat) (ho : oc < 2) (r : Fin 32) (j : Fin 256) (q : Nat) : EReal :=
  if h : q < 6272 then
    X (ix2 r ⟨q, h⟩) * (((code (W (ix2 ⟨256 * oc + j.val, by omega⟩ ⟨q / 2, by omega⟩)) (q % 2) : ℝ) : EReal)
      * S (ix2 ⟨q / 32, by omega⟩ j))
  else 0

/-- The accumulator after `n` tiles: the first `256 n` terms. -/
theorem accum_apply (oc : Nat) (ho : oc < 2) (r : Fin 32) (j : Fin 256) : (n : Nat) → (h : n ≤ 24) →
    accum (F := Ideal) W S X oc ho n h (ix2 r j) = ∑ q ∈ Finset.range (256 * n), term W S X oc ho r j q
  | 0, h => by
    pointwise [accum]
    simp
  | n + 1, h => by
    rw [accum, show 256 * (n + 1) = 256 * n + 256 by ring, Finset.sum_range_add, ← accum_apply oc ho r j n (Nat.le_of_succ_le h),
      ← Fin.sum_univ_eq_sum_range (fun q => term W S X oc ho r j (256 * n + q)) 256]
    refine (tile_apply _ _ _ _ r j).trans ?_
    refine congrArg (accum (F := Ideal) W S X oc ho n _ (ix2 r j) + ·) (Finset.sum_congr rfl fun k _ => ?_)
    rw [term, dif_pos (by omega)]
    have hx : (Rect.unit (s := S32x6272) ![0, 256 * n] S32x256.size (inb_x h)).toLoadRect.idx (ix2 r k) = ix2 r ⟨256 * n + k.val, by omega⟩ := by
      idx_ext
    have hw : (Rect.unit (s := S512x3136) ![256 * oc, 128 * n] S256x128.size (inb_w ho h)).toLoadRect.idx (ix2 j (⟨k.val / 2, by omega⟩ : Fin 128))
        = ix2 ⟨256 * oc + j.val, by omega⟩ ⟨(256 * n + k.val) / 2, by omega⟩ := by
      idx_ext
    have hs : (Rect.unit (s := S196x256) ![8 * n + k.val / 32, 0] S1x256.size (inb_s (by omega))).toLoadRect.idx (ix2 0 j)
        = ix2 ⟨(256 * n + k.val) / 32, by omega⟩ j := by
      idx_ext
    have hp : k.val % 2 = (256 * n + k.val) % 2 := by omega
    dsimp only
    rw [hx, hw, hs, hp]

/-- Half `oc` of the output block: the whole dot product. -/
theorem outHalf_apply (oc : Nat) (ho : oc < 2) (r : Fin 32) (j : Fin 256) :
    outHalf (F := Ideal) W S X oc ho (ix2 r j) = ∑ q ∈ Finset.range 6272, term W S X oc ho r j q := by
  have hsum := Finset.sum_range_add (fun q => term W S X oc ho r j q) (256 * 24) 128
  rw [show 256 * 24 + 128 = 6272 from rfl] at hsum
  rw [hsum, ← accum_apply W S X oc ho r j 24 (Nat.le_refl _),
    ← Fin.sum_univ_eq_sum_range (fun q => term W S X oc ho r j (256 * 24 + q)) 128]
  have ht : ∀ (v : FVec Ideal S32x256 .f32) (i : S32x256.Idx), truncf .bf16 v bitsLt_bf16_f32 i = v i := fun _ _ => rfl
  rw [outHalf, ht, tileLast_apply]
  refine congrArg (accum (F := Ideal) W S X oc ho 24 _ (ix2 r j) + ·) (Finset.sum_congr rfl fun k _ => ?_)
  rw [term, dif_pos (by omega)]
  have hx : (Rect.unit (s := S32x6272) ![0, 6144] S32x128.size inb_S32x6272_S32x128_0_6144).toLoadRect.idx (ix2 r k)
      = ix2 r ⟨256 * 24 + k.val, by omega⟩ := by
    idx_ext
  have hw : (Rect.unit (s := S512x3136) ![256 * oc, 3072] S256x64.size (inb_wl ho)).toLoadRect.idx (ix2 j (⟨k.val / 2, by omega⟩ : Fin 64))
      = ix2 ⟨256 * oc + j.val, by omega⟩ ⟨(256 * 24 + k.val) / 2, by omega⟩ := by
    idx_ext
  have hs : (Rect.unit (s := S196x256) ![192 + k.val / 32, 0] S1x256.size (inb_s (by omega))).toLoadRect.idx (ix2 0 j)
      = ix2 ⟨(256 * 24 + k.val) / 32, by omega⟩ j := by
    idx_ext
  have hp : k.val % 2 = (256 * 24 + k.val) % 2 := by omega
  dsimp only
  rw [hx, hw, hs, hp]

end

end Cert.KernelIdeal.Hand

end
-- ==== Proof.Block.lean ====
/-
  What one grid point leaves in its buffers, read at an index over the extended reals: the scratch copy of x is x with its lanes
  permuted, and column `j` of the output block is the dot product of a row of x with row `j` of the packed window.
-/
module

public import proofs.«01_k».proof.Proof.Value
public import Idealize.ShloMosaic.Lib.WritesUnit

@[expose] public section

set_option maxRecDepth 16384

noncomputable section

namespace Cert.KernelIdeal.Hand

open Cert.KernelIdeal Cert.KernelIdeal.Gen
open Idealize.ShloMosaic
open Idealize.ShloMosaic.TcCoe
open Idealize.SL.Sem

variable (c : Dev nD) (i : grid0.Coords)
    (M1 : Memref sig .tc .vmem S32x6272 .bf16) (h1 : M1.IsWhole) (M2 : Memref sig .tc .vmem S512x3136 .i8) (h2 : M2.IsWhole)
    (M3 : Memref sig .tc .vmem S512x196 .bf16) (h3 : M3.IsWhole) (M4 : Memref sig .tc .vmem S32x512 .bf16) (h4 : M4.IsWhole)
    (M5 : Memref sig .tc .vmem S32x6272 .bf16) (h5 : M5.IsWhole) (M6 : Memref sig .tc .vmem S196x256 .bf16) (h6 : M6.IsWhole)
    (f1 : Bf (F := Ideal) c M1) (f2 : Bf (F := Ideal) c M2) (f3 : Bf (F := Ideal) c M3) (f5 : Bf (F := Ideal) c M5)

/-- After the first `n` stores, the first `128 n` columns of the scratch copy of x hold x with its lanes permuted. -/
theorem xsPieces_read (X : S32x6272.Idx → Elt Ideal .bf16) (r : Fin 32) (q : Fin 6272) : (n : Nat) → (h : n ≤ 49) → q.val < 128 * n →
    M5.view.read (Elt Ideal) (M5.view.writes (Elt Ideal) f5 (xsPieces X n h)) (ix2 r q)
      = X (ix2 r ⟨permLane q.val, permLane_lt (n := 196) q.isLt⟩)
  | 0, _, hq => absurd hq (by omega)
  | n + 1, h, hq => by
    rw [xsPieces]
    by_cases hn : q.val < 128 * n
    · exact (View.read_writes_cons_unit_of_not_mem M5.view f5 (off' := ![0, 128 * n]) (inb_chunk (T := n) h) _ _ (ix2 r q) rfl (1 : Fin 2)
        (Or.inl hn)).trans (xsPieces_read X r q n _ hn)
    · refine (View.read_writes_cons_unit_of_mem M5.view f5 (off' := ![0, 128 * n]) (inb_chunk (T := n) h) _ _ (ix2 r q)
        (ix2 r (⟨q.val - 128 * n, by omega⟩ : Fin 128)) rfl (Fin.forall_fin_two.mpr ⟨(Nat.zero_add _).symm, ?_⟩)).trans ?_
      · show q.val = 128 * n + (q.val - 128 * n)
        omega
      · refine (chunk_apply _ r _).trans (congrArg X ?_)
        have hp : 128 * n + permLane (q.val - 128 * n) = permLane q.val := by unfold permLane; omega
        funext a
        fin_cases a
        · exact Fin.ext (by simp [chunkRect, Rect.unit])
        · exact Fin.ext (by simpa [chunkRect, Rect.unit] using hp)

/-- The point that fills the scratch copy of x leaves x there with its lanes permuted. -/
theorem xs_read (hf : first i) (r : Fin 32) (q : Fin 6272) : M5.view.read (Elt Ideal) (xsAfter c i M1 M5 f1 f5) (ix2 r q)
    = M1.view.read (Elt Ideal) f1 (ix2 r ⟨permLane q.val, permLane_lt (n := 196) q.isLt⟩) := by
  rw [xsAfter, if_pos hf]
  exact xsPieces_read c M5 f5 _ r q 49 _ q.isLt

/-- Any other point keeps the scratch copy. -/
theorem xs_keep (hf : ¬first i) : xsAfter c i M1 M5 f1 f5 = f5 := if_neg hf

/-- A store of the whole buffer of transposed scales is what a read finds. -/
theorem st_head (w : S196x256.Idx → Elt Ideal .bf16) (L : List (View.Piece (Elt Ideal) S196x256 .bf16)) (f : Bf (F := Ideal) c M6) (y : S196x256.Idx) :
    M6.view.read (Elt Ideal) (M6.view.writes (Elt Ideal) f
      (⟨Rect.unit (s := S196x256) ![0, 0] S196x256.size inb_S196x256_S196x256_0_0, w⟩ :: L)) y = w y :=
  View.read_writes_cons_unit_of_mem M6.view f (off' := ![0, 0]) inb_S196x256_S196x256_0_0 w L y y rfl
    (Fin.forall_fin_two.mpr ⟨(Nat.zero_add _).symm, (Nat.zero_add _).symm⟩)

/-- The transposed scales at an index. -/
theorem scalesT_apply (S : FVec Ideal S512x196 .bf16) (oc : Nat) (ho : oc < 2) (g : Fin 196) (j : Fin 256) :
    scalesT (F := Ideal) S oc ho (ix2 g j) = S (ix2 ⟨256 * oc + j.val, by omega⟩ g) := by
  pointwise [scalesT]

/-- The scales the body reads back for half `oc` are the window's, transposed. -/
theorem st_read (oc : Nat) (ho : oc < 2) (g : Fin 196) (j : Fin 256) :
    stRead c M3 M6 f3 oc ho (ix2 g j) = M3.view.read (Elt Ideal) f3 (ix2 ⟨256 * oc + j.val, by omega⟩ g) := by
  match oc, ho with
  | 0, ho => exact (st_head c M6 _ _ _ _).trans (scalesT_apply _ 0 _ g j)
  | 1, ho => exact (st_head c M6 _ _ _ _).trans (scalesT_apply _ 1 _ g j)

/-- Term `q` of the dot product of row `r` of x (its lanes permuted) with row `j` of the packed codes `W` scaled by row `j` of
    `S`. -/
def dotTerm {n : Nat} (X : FVec Ideal S32x6272 .bf16) (W : Vec Ideal ⟨2, ![n, 3136]⟩ .i8) (S : FVec Ideal ⟨2, ![n, 196]⟩ .bf16)
    (r : Fin 32) (j : Fin n) (q : Nat) : EReal :=
  if h : q < 6272 then
    X (ix2 r ⟨permLane q, permLane_lt (n := 196) h⟩) * (((code (W (ix2 j ⟨q / 2, by omega⟩)) (q % 2) : ℝ) : EReal)
      * S (ix2 j ⟨q / 32, by omega⟩))
  else 0

/-- The output block after the point: column `j` of row `r` is the dot product of row `r` of x with row `j` of the packed window,
    provided the scratch copy of x is x with its lanes permuted. -/
theorem block_apply (X : FVec Ideal S32x6272 .bf16)
    (hX : ∀ (r : Fin 32) (q : Fin 6272), M5.view.read (Elt Ideal) (xsAfter c i M1 M5 f1 f5) (ix2 r q)
      = X (ix2 r ⟨permLane q.val, permLane_lt (n := 196) q.isLt⟩)) (r : Fin 32) (j : Fin 512) :
    M4.view.read (Elt Ideal) (bodyRun c i M1 h1 M2 h2 M3 h3 M4 h4 M5 h5 M6 h6 f1 f2 f3 f5).1.1 (ix2 r j)
      = ∑ q ∈ Finset.range 6272, dotTerm (n := 512) X (M2.view.read (Elt Ideal) f2) (M3.view.read (Elt Ideal) f3) r j q := by
  have half : ∀ (oc : Nat) (ho : oc < 2) (k : Fin 256) (hk : j.val = 256 * oc + k.val),
      outHalf (F := Ideal) (M2.view.read (Elt Ideal) f2) (stRead c M3 M6 f3 oc ho) (M5.view.read (Elt Ideal) (xsAfter c i M1 M5 f1 f5)) oc ho (ix2 r k)
        = ∑ q ∈ Finset.range 6272, dotTerm (n := 512) X (M2.view.read (Elt Ideal) f2) (M3.view.read (Elt Ideal) f3) r j q := by
    intro oc ho k hk
    rw [outHalf_apply]
    refine Finset.sum_congr rfl fun q hq => ?_
    have hq' : q < 6272 := Finset.mem_range.mp hq
    have hj : (⟨256 * oc + k.val, by omega⟩ : Fin 512) = j := Fin.ext hk.symm
    rw [term, dotTerm, dif_pos hq', dif_pos hq', hX, st_read, hj]
  rw [bodyRun_out]
  by_cases hj : j.val < 256
  · refine (View.read_writes_cons_unit_of_not_mem M4.view _ (off' := ![0, 256 * 1]) (inb_o (oc := 1) (by decide)) _ _ (ix2 r j) rfl (1 : Fin 2)
      (Or.inl hj)).trans ?_
    refine (View.read_writes_cons_unit_of_mem M4.view _ (off' := ![0, 256 * 0]) (inb_o (oc := 0) (by decide)) _ _ (ix2 r j)
        (ix2 r (⟨j.val, hj⟩ : Fin 256)) rfl (Fin.forall_fin_two.mpr ⟨(Nat.zero_add _).symm, (Nat.zero_add _).symm⟩)).trans ?_
    exact half 0 (by decide) ⟨j.val, hj⟩ (Nat.zero_add _).symm
  · refine (View.read_writes_cons_unit_of_mem M4.view _ (off' := ![0, 256 * 1]) (inb_o (oc := 1) (by decide)) _ _ (ix2 r j)
        (ix2 r (⟨j.val - 256, by omega⟩ : Fin 256)) rfl (Fin.forall_fin_two.mpr ⟨(Nat.zero_add _).symm, ?_⟩)).trans ?_
    · show j.val = 256 * 1 + (j.val - 256)
      omega
    · exact half 1 (by decide) ⟨j.val - 256, by omega⟩ (by show j.val = 256 * 1 + (j.val - 256); omega)

end Cert.KernelIdeal.Hand

end
-- ==== Proof.Run.lean ====
/-
  The kernel's run over the extended reals: the body's obligation at every grid point, the launch, and the contents of the result
  array afterwards.
-/
module

public import proofs.«01_k».proof.Proof.Block
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The point that fills the scratch copy of x is the first. -/
theorem first_iff : ∀ t : Fin cfg0.N, first (grid0.coords t) ↔ t.val = 0 :=
  (by decide +kernel : ∀ t : Fin grid0.N, first (grid0.coords t) ↔ t.val = 0)

/-- Every window's block index at a point. -/
theorem idx_val : ∀ t : Fin cfg0.N, win0_0.index t = ![0, 0] ∧ win0_1.index t = ![t.val, 0] ∧ win0_2.index t = ![t.val, 0]
    ∧ win0_3.index t = ![0, t.val] ∧ t.val < 52 :=
  (by decide +kernel : ∀ t : Fin grid0.N, _)

/-- x as the kernel finds it, the packed codes, the scales. -/
abbrev xArr (c : Dev nD) : FVec Ideal S32x6272 .bf16 := V m c main_v0
abbrev wArr (c : Dev nD) : Vec Ideal S26240x3136 .i8 := V m c main_arg1
abbrev sArr (c : Dev nD) : FVec Ideal S26240x196 .bf16 := V m c main_arg2

/-- The array the kernel is shown to return: row `r`, column `j` is the dot product of row `r` of x with row `j` of the weights. -/
def result (c : Dev nD) : FVec Ideal S32x26240 .bf16 := fun y =>
  ∑ q ∈ Finset.range 6272, dotTerm (n := 26240) (xArr m c) (wArr m c) (sArr m c) (y 0) (y 1) q

/-- The scratch copy of x holds x with its lanes permuted. -/
def Filled (c : Dev nD) (f : Bf (F := Ideal) c (Memref.whole cc0_scratch0)) : Prop :=
  ∀ (r : Fin 32) (q : Fin 6272), (Memref.whole cc0_scratch0).view.read (Elt Ideal) f (ix2 r q)
    = xArr m c (ix2 r ⟨permLane q.val, permLane_lt (n := 196) q.isLt⟩)

/-- The proof data: the arrays as the region finds them; after the body, the input buffers hold their blocks and the output
    buffer the result's block; between points the scratch copy of x holds x with its lanes permuted, from the second point on. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => (0 : EReal)) (iblk m c 2 t)
    | ⟨3, _⟩ => win0_3.fill (grid0.coords t) (fun _ => (0 : EReal)) ((win0_3.blk t).view.read (Elt Ideal) (result m c))
  Φ t := iprop((∃ f, ⌜t.val ≠ 0 → Filled m c f⌝ ∗ pt c (Memref.whole cc0_scratch0) f)
    ∗ (∃ f, pt c (Memref.whole cc0_scratch1) f) ∗ ∃ r, prngReg c r)
  q _ := fullShare
  owed _ := 0

/-- What holds between points, written out. -/
theorem inv_eq (c : Dev nD) (t : Fin (cfg0.N + 1)) : (dats m 0 c).Φ t
    = iprop((∃ f, ⌜t.val ≠ 0 → Filled m c f⌝ ∗ pt c (Memref.whole cc0_scratch0) f)
        ∗ (∃ f, pt c (Memref.whole cc0_scratch1) f) ∗ ∃ r, prngReg c r) := rfl

/-- What the body finds in the buffers: x's block, -/
theorem before_0 (c : Dev nD) (t : Fin cfg0.N) (d) : (dats m 0 c).before 0 t d = iblk m c 0 t :=
  before0_0_of m (dats m 0 c) rfl (fun _ => rfl) t d
/-- the block of packed codes on the rows inside the array, anything past them, -/
theorem before_1 (c : Dev nD) (t : Fin cfg0.N) (d) :
    (dats m 0 c).before 1 t d = win0_1.fill (grid0.coords t) d (iblk m c 1 t) := by
  unfold Dat.before; rw [if_pos (fetch0_1 t)]; rfl
/-- and the block of scales likewise. -/
theorem before_2 (c : Dev nD) (t : Fin cfg0.N) (d) :
    (dats m 0 c).before 2 t d = win0_2.fill (grid0.coords t) d (iblk m c 2 t) := by
  unfold Dat.before; rw [if_pos (fetch0_2 t)]; rfl

/-- x's one block is the whole array. -/
theorem xblk (c : Dev nD) (t : Fin cfg0.N) : iblk m c 0 t = xArr m c := by
  blk_ext! [iblk, idx_val t]

/-- How many rows of the packed window, rows of the scale window and columns of the output block lie in their arrays. -/
theorem xsize_val : ∀ t : Fin cfg0.N, win0_1.xsize (grid0.coords t) 0 = min 512 (26240 - 512 * t.val) ∧ win0_1.xsize (grid0.coords t) 1 = 3136
    ∧ win0_2.xsize (grid0.coords t) 0 = min 512 (26240 - 512 * t.val) ∧ win0_2.xsize (grid0.coords t) 1 = 196
    ∧ win0_3.xsize (grid0.coords t) 0 = 32 ∧ win0_3.xsize (grid0.coords t) 1 = min 512 (26240 - 512 * t.val) :=
  (by decide +kernel : ∀ t : Fin grid0.N, _)

/-- A row of the packed window inside the array is the array's row. -/
theorem wblk (c : Dev nD) (t : Fin cfg0.N) (d : S512x3136.Idx → Elt Ideal .i8) (j : Fin 512) (q : Fin 3136) (hj : 512 * t.val + j.val < 26240) :
    win0_1.fill (grid0.coords t) d (iblk m c 1 t) (ix2 j q) = wArr m c (ix2 ⟨512 * t.val + j.val, hj⟩ q) := by
  have hx := xsize_val t
  have hm : win0_1.moved (grid0.coords t) (ix2 j q) = true := (win0_1.moved_iff _ _).mpr (Fin.forall_fin_two.mpr ⟨by
    show j.val < win0_1.xsize (grid0.coords t) 0
    rw [hx.1]; omega, by
    show q.val < win0_1.xsize (grid0.coords t) 1
    rw [hx.2.1]; omega⟩)
  unfold Window.fill
  rw [dif_pos hm]
  blk_ext! [iblk, idx_val t]

/-- A row of the scale window inside the array is the array's row. -/
theorem sblk (c : Dev nD) (t : Fin cfg0.N) (d : S512x196.Idx → Elt Ideal .bf16) (j : Fin 512) (g : Fin 196) (hj : 512 * t.val + j.val < 26240) :
    win0_2.fill (grid0.coords t) d (iblk m c 2 t) (ix2 j g) = sArr m c (ix2 ⟨512 * t.val + j.val, hj⟩ g) := by
  have hx := xsize_val t
  have hm : win0_2.moved (grid0.coords t) (ix2 j g) = true := (win0_2.moved_iff _ _).mpr (Fin.forall_fin_two.mpr ⟨by
    show j.val < win0_2.xsize (grid0.coords t) 0
    rw [hx.2.2.1]; omega, by
    show g.val < win0_2.xsize (grid0.coords t) 1
    rw [hx.2.2.2.1]; omega⟩)
  unfold Window.fill
  rw [dif_pos hm]
  blk_ext! [iblk, idx_val t]

/-- Contents whose columns inside the array are dot products with the rows of the packed and scale windows are, on those columns,
    the result's block. -/
theorem cut_out (c : Dev nD) (t : Fin cfg0.N) (d1 : S512x3136.Idx → Elt Ideal .i8) (d2 : S512x196.Idx → Elt Ideal .bf16)
    (C : S32x512.Idx → Elt Ideal .bf16)
    (hC : ∀ (r : Fin 32) (j : Fin 512), C (ix2 r j) = ∑ q ∈ Finset.range 6272, dotTerm (n := 512) (xArr m c)
      (win0_1.fill (grid0.coords t) d1 (iblk m c 1 t)) (win0_2.fill (grid0.coords t) d2 (iblk m c 2 t)) r j q) :
    win0_3.cut (grid0.coords t) C
      = win0_3.cut (grid0.coords t) (win0_3.fill (grid0.coords t) (fun _ => (0 : EReal)) ((win0_3.blk t).view.read (Elt Ideal) (result m c))) := by
  rw [Window.cut_fill]
  funext y
  have hx := xsize_val t
  have hr : (y 0).val < 32 := Nat.lt_of_lt_of_eq (y 0).isLt hx.2.2.2.2.1
  have hj' : (y 1).val < min 512 (26240 - 512 * t.val) := Nat.lt_of_lt_of_eq (y 1).isLt hx.2.2.2.2.2
  have hj : (y 1).val < 512 := by omega
  have hn : 512 * t.val + (y 1).val < 26240 := by omega
  have e1 : win0_3.xinj (grid0.coords t) y = ix2 (⟨(y 0).val, hr⟩ : Fin 32) (⟨(y 1).val, hj⟩ : Fin 512) := by
    funext a; fin_cases a <;> rfl
  have e2 : (win0_3.blk t).view.emb y = ix2 (⟨(y 0).val, hr⟩ : Fin 32) (⟨512 * t.val + (y 1).val, hn⟩ : Fin 26240) := by
    blk_ext! [idx_val t]
  show C (win0_3.xinj (grid0.coords t) y) = result m c ((win0_3.blk t).view.emb y)
  rw [e1, e2, hC]
  refine Finset.sum_congr rfl fun q hq => ?_
  have hq' : q < 6272 := Finset.mem_range.mp hq
  rw [dotTerm, dif_pos hq', wblk m c t d1 _ _ hn, sblk m c t d2 _ _ hn]
  show _ = dotTerm (n := 26240) (xArr m c) (wArr m c) (sArr m c) (⟨(y 0).val, hr⟩ : Fin 32) (⟨512 * t.val + (y 1).val, hn⟩ : Fin 26240) q
  rw [dotTerm, dif_pos hq']

/-- The body's obligation at a point. -/
theorem body_obligation (c : Dev nD) : BodyObligationLoose (dats m 0 c) (defs₀ (F := Ideal)) Variants.none () Set.univ := fun t => by
  rw [bigSep_W0, bigSep_W0]
  simp only
  rw [show (dats m 0 c).owesAt () t.succ = (dats m 0 c).owesAt () t.castSucc from rfl, inv_eq m c t.castSucc, inv_eq m c t.succ]
  iintro ⟨⟨⟨%f5, %hf5, H5⟩, H6, HP⟩, Ho, ⟨%d0, H0⟩, ⟨%d1, H1⟩, ⟨%d2, H2⟩, ⟨%d3, H3⟩⟩
  rw [before_0 m c t d0, before_1 m c t d1, before_2 m c t d2]
  have hxs : ∀ (r : Fin 32) (q : Fin 6272), (Memref.whole cc0_scratch0).view.read (Elt Ideal)
      (xsAfter c (grid0.coords t) (win0_0.stage (cfg0.slots t 0)) (Memref.whole cc0_scratch0)
        ((hstage0_0 ((cfg0.slots t 0).cast nbuf0_0)).unread (iblk m c 0 t)) f5) (ix2 r q)
      = xArr m c (ix2 r ⟨permLane q.val, permLane_lt (n := 196) q.isLt⟩) := by
    intro r q
    by_cases hf : first (grid0.coords t)
    · rw [xs_read c (grid0.coords t) _ _ _ _ hf, Memref.IsWhole.read_unread, xblk]
    · rw [xs_keep c (grid0.coords t) _ _ _ _ hf]
      exact hf5 (fun h => hf ((first_iff t).mpr h)) r q
  have hC := block_apply c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (Memref.whole cc0_scratch0) (Memref.isWhole_whole _)
    (Memref.whole cc0_scratch1) (Memref.isWhole_whole _) ((hstage0_0 ((cfg0.slots t 0).cast nbuf0_0)).unread (iblk m c 0 t))
    ((hstage0_1 ((cfg0.slots t 1).cast nbuf0_1)).unread (win0_1.fill (grid0.coords t) d1 (iblk m c 1 t)))
    ((hstage0_2 ((cfg0.slots t 2).cast nbuf0_2)).unread (win0_2.fill (grid0.coords t) d2 (iblk m c 2 t))) f5 (xArr m c) hxs
  rw [Memref.IsWhole.read_unread, Memref.IsWhole.read_unread] at hC
  iapply (body_owns (F := Ideal) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (Memref.whole cc0_scratch0) (Memref.isWhole_whole _)
    (Memref.whole cc0_scratch1) (Memref.isWhole_whole _) (iblk m c 0 t) (win0_1.fill (grid0.coords t) d1 (iblk m c 1 t))
    (win0_2.fill (grid0.coords t) d2 (iblk m c 2 t)) _ f5 Set.univ _)
  isplitl [H0]; · iexact H0
  isplitl [H1]; · iexact H1
  isplitl [H2]; · iexact H2
  isplitl [H3]; · iexact H3
  isplitl [H5]; · iexact H5
  isplitl [H6]; · iexact H6
  rw [bodyRun_xs]
  generalize (win0_3.stage (cfg0.slots t 3)).view.read (Elt Ideal) (bodyRun (F := Ideal) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (Memref.whole cc0_scratch0) (Memref.isWhole_whole _)
    (Memref.whole cc0_scratch1) (Memref.isWhole_whole _) _ _ _ f5).1.1 = C at hC ⊢
  iintro ⟨H0, H1, H2, H3, H5, H6⟩
  isplitl [H5 H6 HP]
  · isplitl [H5]
    · iexists _; isplitr
      · ipureintro; exact fun _ => hxs
      iexact H5
    isplitl [H6]; · iexact H6
    iexact HP
  isplitl [Ho]; · iexact Ho
  isplitl [H0]; · iexact H0
  isplitl [H1]
  · iexists d1
    change _ ⊢ owns (c : Thread nD τ) (win0_1.stage (cfg0.slots t 1)) fullShare (win0_1.fill (grid0.coords t) d1
      (win0_1.cut (grid0.coords t) (win0_1.fill (grid0.coords t) (fun _ => (0#8 : BitVec 8)) (iblk m c 1 t))))
    rw [Window.cut_fill]
  isplitl [H2]
  · iexists d2
    change _ ⊢ owns (c : Thread nD τ) (win0_2.stage (cfg0.slots t 2)) fullShare (win0_2.fill (grid0.coords t) d2
      (win0_2.cut (grid0.coords t) (win0_2.fill (grid0.coords t) (fun _ => (0 : EReal)) (iblk m c 2 t))))
    rw [Window.cut_fill]
  · iexists C
    change _ ⊢ owns (c : Thread nD τ) (win0_3.stage (cfg0.slots t 3)) fullShare (win0_3.fill (grid0.coords t) C
      (win0_3.cut (grid0.coords t) (win0_3.fill (grid0.coords t) (fun _ => (0 : EReal)) ((win0_3.blk t).view.read (Elt Ideal) (result m c)))))
    rw [Window.fill_congr_cut _ _ (cut_out m c t d1 d2 C hC)]

/-- The result array after the run. -/
theorem final (c : Dev nD) : (dats m 0 c).arrAt 3 cfg0.N = result m c := by
  refine (dats m 0 c).arrAt_eq_of_covers 3 _ (by decide +kernel) fun t _ y => ?_
  show win0_3.fill (grid0.coords t) (fun _ => (0 : EReal)) ((win0_3.blk t).view.read (Elt Ideal) (result m c)) (win0_3.xinj (grid0.coords t) y) = _
  rw [Window.fill_xinj]
  rfl

-- the launch theorem's implicit arguments are found by unifying with the run's statement
set_option backward.isDefEq.respectTransparency.types false in
/-- Every weakly fair execution of the kernel's program terminates with the arrays as the proof data say and every counter at
    zero. -/
theorem run_main : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl)
    (hin := fun c => by
      unfold Pipeline.ΦA
      rw [inv_eq]
      show iprop(Pipeline.scopedRest spec0 c ∗ _) ⊢ _
      rw [scopedRest0_eq]
      iintro ⟨⟨⟨%f5, H5⟩, ⟨%f6, H6⟩⟩, HP⟩
      isplitl [H5]
      · iexists f5; isplitr
        · ipureintro; exact fun h => absurd rfl h
        iexact H5
      isplitl [H6]; · iexists f6; iexact H6
      iexact HP)
    (hout := fun c => by
      unfold Pipeline.ΦA
      rw [inv_eq]
      show _ ⊢ iprop(Pipeline.scopedRest spec0 c ∗ _)
      rw [scopedRest0_eq]
      iintro ⟨⟨%f5, -, H5⟩, ⟨%f6, H6⟩, HP⟩
      isplitr [HP]
      · isplitl [H5]; · iexists f5; iexact H5
        iexists f6; iexact H6
      iexact HP)
    (Q' := _) (hQ' := fun _ h => h)

end Cert.KernelIdeal.Hand

end
-- ==== Proof.Reference.lean ====
/-
  The reference's result at an index: the two halves of each group of 32 columns, each a sum over the groups and the
  columns of a half, the codes read out of the low and the high four bits of the packed bytes.
-/
module

public import proofs.«01_k».proof.Proof.Value
public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic
open Cert.KernelIdeal.Hand (code)

/-- The offset of the codes is eight. -/
theorem offset_eq : Ideal.ofBits .bf16 0x4100#16 = ((8 : ℝ) : EReal) := by
  simp [Ideal.ofBits, Ideal.ieee, -EReal.coe_mul]; norm_num

/-- An integer less eight, made a float before the subtraction or after it. -/
theorem sub_offset (z : BitVec 32) : (FloatOps.sitofp (F := Ideal) .bf16 z : EReal) - Ideal.ofBits .bf16 0x4100#16
    = ((((z.toInt - 8 : ℤ)) : ℝ) : EReal) := by
  rw [offset_eq]
  show ((z.toInt : ℝ) : EReal) - ((8 : ℝ) : EReal) = _
  rw [← EReal.coe_sub]
  push_cast
  rfl

/-- The low four bits of a byte, less eight, are its even code, -/
theorem low_bits (b : BitVec 8) : (IntOp.andi (b.setWidth 32) 15#32).toInt - 8 = code b 0 := by
  revert b; decide +kernel
/-- and its high four bits, less eight, its odd one. -/
theorem high_bits (b : BitVec 8) : (IntOp.shrsi .host (b.setWidth 32) 4#32).toInt - 8 = code b 1 := by
  revert b; decide +kernel

/-- The reference's result as a term of its three arguments. -/
def expected (x : FVec Ideal S32x1x6272 .bf16) (w : Vec Ideal S26240x3136 .i8) (s : FVec Ideal S26240x196 .bf16) :
    FVec Ideal S32x1x26240 .bf16 :=
  truncf .bf16 (addf
    (Host.dotGeneral dot_S32x1x196x16_S26240x196x16_S32x1x26240_23_12_01_0_n_n none
      (extractStridedSlice S32x1x196x16 ![0, 0, 0, 0] (shapeCast _ x shapeCasts_S32x1x6272_S32x1x196x32)
        slices_S32x1x196x32_S32x1x196x16_0_0_0_0)
      (mulf (subf (sitofp .bf16 (andi (extui 32 (shapeCast _ w shapeCasts_S26240x3136_S26240x196x16) natLt_8_32)
          (broadcastInDim S26240x196x16 ![] bcast_S_S26240x196x16 (constantI S_ 32 15#32))))
        (broadcastInDim S26240x196x16 ![] bcast_S_S26240x196x16 (constant S_ .bf16 0x4100#16)))
        (broadcastInDim S26240x196x16 ![0, 1, 2] bcast_S26240x196x1_S26240x196x16_0_1_2
          (broadcastInDim S26240x196x1 ![0, 1] bcast_S26240x196_S26240x196x1_0_1 s))))
    (Host.dotGeneral dot_S32x1x196x16_S26240x196x16_S32x1x26240_23_12_01_0_n_n none
      (extractStridedSlice S32x1x196x16 ![0, 0, 0, 16] (shapeCast _ x shapeCasts_S32x1x6272_S32x1x196x32)
        slices_S32x1x196x32_S32x1x196x16_0_0_0_16)
      (mulf (subf (sitofp .bf16 (Host.shrsi (extui 32 (shapeCast _ w shapeCasts_S26240x3136_S26240x196x16) natLt_8_32)
          (broadcastInDim S26240x196x16 ![] bcast_S_S26240x196x16 (constantI S_ 32 4#32))))
        (broadcastInDim S26240x196x16 ![] bcast_S_S26240x196x16 (constant S_ .bf16 0x4100#16)))
        (broadcastInDim S26240x196x16 ![0, 1, 2] bcast_S26240x196x1_S26240x196x16_0_1_2
          (broadcastInDim S26240x196x1 ![0, 1] bcast_S26240x196_S26240x196x1_0_1 s))))) bitsLt_bf16_f32

/-- It at an index. -/
theorem expected_apply (x : FVec Ideal S32x1x6272 .bf16) (w : Vec Ideal S26240x3136 .i8) (s : FVec Ideal S26240x196 .bf16)
    (r : Fin 32) (o : Fin 1) (j : Fin 26240) : expected x w s (ix3 r o j)
      = (∑ g : Fin 196, ∑ k : Fin 16, x (ix3 r o ⟨32 * g + k, by omega⟩)
            * (((code (w (ix2 j ⟨16 * g + k, by omega⟩)) 0 : ℝ) : EReal) * s (ix2 j g)))
        + ∑ g : Fin 196, ∑ k : Fin 16, x (ix3 r o ⟨32 * g + (16 + k), by omega⟩)
            * (((code (w (ix2 j ⟨16 * g + k, by omega⟩)) 1 : ℝ) : EReal) * s (ix2 j g)) := by
  pointwise [expected]
  simp only [sub_offset, low_bits, high_bits, Nat.mul_comm 32, Nat.mul_comm 16]
  obtain rfl : o = 0 := Subsingleton.elim _ _
  rfl

end Cert.ReferenceIdeal.Hand

end
-- ==== Proof.Equation.lean ====
/-
  The one equation: the kernel's sum, over the columns in the order of the packed codes, is the reference's two sums over
  the halves of the groups. Extended reals are only added in another order.
-/
module

public import proofs.«01_k».proof.Proof.Run
public import proofs.«01_k».proof.Proof.Reference

@[expose] public section

set_option maxRecDepth 16384

noncomputable section

namespace Cert.KernelIdeal.Hand

open Cert.KernelIdeal Cert.KernelIdeal.Gen
open Idealize.ShloMosaic
open Idealize.ShloMosaic.TcCoe

/-- A sum over 6272 numbers, as sums over 196 groups of 16 consecutive pairs. -/
theorem sum_pairs (f : ℕ → EReal) : ∑ q ∈ Finset.range 6272, f q
    = ∑ g : Fin 196, ∑ k : Fin 16, (f (32 * g.val + 2 * k.val) + f (32 * g.val + 2 * k.val + 1)) := by
  have pair : ∀ (h : ℕ → EReal) (n : ℕ), ∑ q ∈ Finset.range (2 * n), h q = ∑ k ∈ Finset.range n, (h (2 * k) + h (2 * k + 1)) := by
    intro h n
    induction n with
    | zero => simp
    | succ n ih => rw [show 2 * (n + 1) = 2 * n + 1 + 1 by ring, Finset.sum_range_succ, Finset.sum_range_succ, ih,
        Finset.sum_range_succ, add_assoc]
  have group : ∀ n : ℕ, ∑ q ∈ Finset.range (32 * n), f q = ∑ g ∈ Finset.range n, ∑ l ∈ Finset.range 32, f (32 * g + l) := by
    intro n
    induction n with
    | zero => simp
    | succ n ih => rw [show 32 * (n + 1) = 32 * n + 32 by ring, Finset.sum_range_add, ih,
        Finset.sum_range_succ (fun g => ∑ l ∈ Finset.range 32, f (32 * g + l)) n]
  rw [show 6272 = 32 * 196 by norm_num, group,
    ← Fin.sum_univ_eq_sum_range (fun g => ∑ l ∈ Finset.range 32, f (32 * g + l)) 196]
  refine Finset.sum_congr rfl fun g _ => ?_
  rw [show 32 = 2 * 16 by norm_num, pair, ← Fin.sum_univ_eq_sum_range]
  rfl

/-- A term at an even place of a group: the low half's column. -/
theorem dotTerm_even (X : FVec Ideal S32x6272 .bf16) (W : Vec Ideal S26240x3136 .i8) (S : FVec Ideal S26240x196 .bf16)
    (r : Fin 32) (j : Fin 26240) (g : Fin 196) (k : Fin 16) : dotTerm (n := 26240) X W S r j (32 * g.val + 2 * k.val)
      = X (ix2 r ⟨32 * g.val + k.val, by omega⟩) * (((code (W (ix2 j ⟨16 * g.val + k.val, by omega⟩)) 0 : ℝ) : EReal) * S (ix2 j g)) := by
  rw [dotTerm, dif_pos (by omega), show (32 * g.val + 2 * k.val) % 2 = 0 by omega]
  have hx : permLane (32 * g.val + 2 * k.val) = 32 * g.val + k.val := by unfold permLane; omega
  have hw : (32 * g.val + 2 * k.val) / 2 = 16 * g.val + k.val := by omega
  have hs : (32 * g.val + 2 * k.val) / 32 = g.val := by omega
  simp only [hx, hw, hs]

/-- A term at an odd place of a group: the high half's column. -/
theorem dotTerm_odd (X : FVec Ideal S32x6272 .bf16) (W : Vec Ideal S26240x3136 .i8) (S : FVec Ideal S26240x196 .bf16)
    (r : Fin 32) (j : Fin 26240) (g : Fin 196) (k : Fin 16) : dotTerm (n := 26240) X W S r j (32 * g.val + 2 * k.val + 1)
      = X (ix2 r ⟨32 * g.val + (16 + k.val), by omega⟩) * (((code (W (ix2 j ⟨16 * g.val + k.val, by omega⟩)) 1 : ℝ) : EReal) * S (ix2 j g)) := by
  rw [dotTerm, dif_pos (by omega), show (32 * g.val + 2 * k.val + 1) % 2 = 1 by omega]
  have hx : permLane (32 * g.val + 2 * k.val + 1) = 32 * g.val + (16 + k.val) := by unfold permLane; omega
  have hw : (32 * g.val + 2 * k.val + 1) / 2 = 16 * g.val + k.val := by omega
  have hs : (32 * g.val + 2 * k.val + 1) / 32 = g.val := by omega
  simp only [hx, hw, hs]

/-- Dropping x's middle axis, at an index; -/
theorem dropAxis_apply (x : FVec Ideal S32x1x6272 .bf16) (r : Fin 32) (q : Fin 6272) :
    shapeCast S32x6272 x shapeCasts_S32x1x6272_S32x6272 (ix2 r q) = x (ix3 r 0 q) := by
  pointwise

/-- putting the result's middle axis back, at an index. -/
theorem putAxis_apply (y : FVec Ideal S32x26240 .bf16) (r : Fin 32) (j : Fin 26240) :
    shapeCast S32x1x26240 y shapeCasts_S32x26240_S32x1x26240 (ix3 r 0 j) = y (ix2 r j) := by
  pointwise

/-- The reference's two sums are the sum over all the columns in the order of the codes. -/
theorem sums_eq (x : FVec Ideal S32x1x6272 .bf16) (W : Vec Ideal S26240x3136 .i8) (S : FVec Ideal S26240x196 .bf16)
    (r : Fin 32) (j : Fin 26240) : Cert.ReferenceIdeal.Hand.expected x W S (ix3 r 0 j)
      = ∑ q ∈ Finset.range 6272, dotTerm (n := 26240) (shapeCast S32x6272 x shapeCasts_S32x1x6272_S32x6272) W S r j q := by
  rw [Cert.ReferenceIdeal.Hand.expected_apply, sum_pairs]
  simp only [dotTerm_even, dotTerm_odd, dropAxis_apply, Finset.sum_add_distrib]

variable (m : (ℓ : Loc nD τ sig) → Buf (Elt Ideal) ℓ)

/-- The region finds x with its middle axis dropped. -/
theorem xArr_eq (c : Dev nD) :
    xArr m c = shapeCast S32x6272 (m ((c.tc : Thread nD τ).loc main_arg0)) shapeCasts_S32x1x6272_S32x6272 := by
  unfold xArr
  simp only [V, V0, hostOps0, List.flatten_cons, List.flatten_nil, List.append_nil, List.cons_append, List.nil_append]
  after_results
  rfl

/-- The array at an index. -/
theorem result_apply (c : Dev nD) (r : Fin 32) (j : Fin 26240) : result m c (ix2 r j)
    = ∑ q ∈ Finset.range 6272, dotTerm (n := 26240) (xArr m c) (wArr m c) (sArr m c) r j q := rfl

/-- The reference's result is the kernel's array with the middle axis put back. -/
theorem expected_eq (c : Dev nD) : Cert.ReferenceIdeal.Hand.expected (m ((c.tc : Thread nD τ).loc main_arg0))
      (m ((c.tc : Thread nD τ).loc main_arg1)) (m ((c.tc : Thread nD τ).loc main_arg2))
    = shapeCast S32x1x26240 (result m c) shapeCasts_S32x26240_S32x1x26240 := by
  funext i
  obtain ⟨r, o, j, rfl⟩ : ∃ (r : Fin 32) (o : Fin 1) (j : Fin 26240), i = ix3 r o j := ⟨i 0, i 1, i 2, by idx_ext⟩
  obtain rfl : o = 0 := Subsingleton.elim _ _
  rw [putAxis_apply, result_apply, xArr_eq, show wArr m c = m ((c.tc : Thread nD τ).loc main_arg1) from V_main_arg1 m c,
    show sArr m c = m ((c.tc : Thread nD τ).loc main_arg2) from V_main_arg2 m c]
  exact sums_eq _ _ _ r j

/-- What the program's result buffer holds at the end: the array with the middle axis put back. -/
theorem tail_result (c : Dev nD) : Pipeline.afterTail₀ cfgs (dats m) 0 (V0 m) [hostOps1] c main_v2
    = shapeCast S32x1x26240 (result m c) shapeCasts_S32x26240_S32x1x26240 := by
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.devRef .tc main_v1)
      = result m c :=
    (Pipeline.withArrays_arr spec0 (by decide) c (V0 m c) (fun w => (dats m 0 c).arrAt w cfg0.N) 3).trans (final m c)
  exact congrArg (fun y : FVec Ideal S32x26240 .bf16 => shapeCast S32x1x26240 y shapeCasts_S32x26240_S32x1x26240) e

end Cert.KernelIdeal.Hand

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Claim
public import proofs.«01_k».proof.Proof.BitsRun
public import proofs.«01_k».proof.Proof.Equation

@[expose] public section

noncomputable section

namespace Cert.Proof

open Idealize.ShloMosaic Idealize.SL.Sem Cert.Kernel

open Cert.KernelIdeal.Hand (result run_main final expected_eq)

/-- The kernel over bit patterns runs, its arguments unchanged and its counters at zero. -/
theorem quiescent_kernel : Cert.quiescent_Kernel := by
  intro m g _
  exact Cert.Kernel.Hand.run_frame m g

/-- The kernel over extended reals likewise. -/
theorem quiescent_kernelIdeal : Cert.quiescent_KernelIdeal := by
  intro m g _
  exact θ_run_and (Cert.KernelIdeal.Gen.frame_of m g (Cert.KernelIdeal.Hand.dats m) (fun _ _ => rfl)
    (θ_run_mono (run_main m g) fun _ h => h.1)) (θ_run_mono (run_main m g) fun _ h => h.2)

/-- And the reference, which has no semaphore at all. -/
theorem quiescent_referenceIdeal : Cert.quiescent_ReferenceIdeal := by
  intro m g _
  exact θ_run_mono (Cert.ReferenceIdeal.Value.run m g) fun r h =>
    ⟨fun c => (h c).2, sem_eq_zero_of_no_sems (by decide) r.2⟩

/-- The kernel and the reference end with the same result over extended reals: the kernel's array with the middle axis
    put back. -/
theorem algebraic : Cert.algebraic_KernelIdeal_ReferenceIdeal := by
  intro m g m' g' _ hagree
  refine ⟨fun c => shapeCast Cert.KernelIdeal.S32x1x26240 (result m c) Cert.KernelIdeal.Gen.shapeCasts_S32x26240_S32x1x26240, ?_, ?_⟩
  · run_from (θ_run_mono (run_main m g) fun _ h => h.1)
    · exact Cert.KernelIdeal.Hand.tail_result m c
    · exact Cert.KernelIdeal.Gen.W_main_arg0 m (Cert.KernelIdeal.Hand.dats m) c
  · refine θ_run_mono (Cert.ReferenceIdeal.Value.run m' g') fun r h c => ⟨(h c).1.trans ?_, (h c).2⟩
    rw [(hagree c).1, (hagree c).2.1, (hagree c).2.2]
    exact expected_eq m c

/-- Everything claimed. -/
theorem claim : Cert.Claim :=
  ⟨Cert.Kernel.Gen.facts, Cert.KernelIdeal.Gen.facts, Cert.ReferenceIdeal.Gen.facts,
    quiescent_kernel, quiescent_kernelIdeal, quiescent_referenceIdeal, trivial, algebraic⟩

end Cert.Proof

end
